-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_pi" .f32 0x3EA2F983#32 ((Real.pi⁻¹ : ℝ) : EReal)
  ∧ IdealRules.named_const.Statement Cert.KernelIdeal.κ "inv_deg" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x128x4 : Shape := ⟨3, ![64, 128, 4]⟩
abbrev S11x64 : Shape := ⟨2, ![11, 64]⟩
abbrev S64 : Shape := ⟨1, ![64]⟩
abbrev S64x64 : Shape := ⟨2, ![64, 64]⟩
abbrev S4x64 : Shape := ⟨2, ![4, 64]⟩
abbrev S64x4 : Shape := ⟨2, ![64, 4]⟩
abbrev S4 : Shape := ⟨1, ![4]⟩
abbrev S_ : Shape := ⟨0, ![]⟩
abbrev S1x64 : Shape := ⟨2, ![1, 64]⟩
abbrev S1x4 : Shape := ⟨2, ![1, 4]⟩
abbrev S1x128x4 : Shape := ⟨3, ![1, 128, 4]⟩
abbrev S128x4 : Shape := ⟨2, ![128, 4]⟩
abbrev S128x1 : Shape := ⟨2, ![128, 1]⟩
abbrev S128x6 : Shape := ⟨2, ![128, 6]⟩
abbrev S6x128 : Shape := ⟨2, ![6, 128]⟩
abbrev S1x128 : Shape := ⟨2, ![1, 128]⟩
abbrev S128x128 : Shape := ⟨2, ![128, 128]⟩
abbrev S128x128x1 : Shape := ⟨3, ![128, 128, 1]⟩
abbrev S128x128x11 : Shape := ⟨3, ![128, 128, 11]⟩
abbrev S16384x11 : Shape := ⟨2, ![16384, 11]⟩
abbrev S16384x64 : Shape := ⟨2, ![16384, 64]⟩
abbrev S128x128x64 : Shape := ⟨3, ![128, 128, 64]⟩
abbrev S128x64 : Shape := ⟨2, ![128, 64]⟩

abbrev nBuf : Space → Nat
  | .hbm => 21
  | .vmem => 16
  | .smem => 0
  | _ => 0

abbrev bufTy : (tb : Table) → Fin (tcTables nBuf tb) → BufTy
  | .hbm, ⟨0, _⟩ => ⟨S64x128x4, .f32⟩
  | .hbm, ⟨1, _⟩ => ⟨S11x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S4x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x4, .f32⟩
  | .hbm, ⟨12, _⟩ => ⟨S4, .f32⟩
  | .hbm, ⟨13, _⟩ => ⟨S_, .i32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x4, .f32⟩
  | .hbm, ⟨20, _⟩ => ⟨S64x128x4, .f32⟩
  | .local _ .vmem, ⟨0, _⟩ => ⟨S1x128x4, .f32⟩
  | .local _ .vmem, ⟨1, _⟩ => ⟨S1x128x4, .f32⟩
  | .local _ .vmem, ⟨2, _⟩ => ⟨S11x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S4x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x4, .f32⟩
  | .local _ .vmem, ⟨13, _⟩ => ⟨S1x4, .f32⟩
  | .local _ .vmem, ⟨14, _⟩ => ⟨S1x128x4, .f32⟩
  | .local _ .vmem, ⟨15, _⟩ => ⟨S1x128x4, .f32⟩
  | _, _ => ⟨S64x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x128x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv_deg" => some ((1 / 127 : ℝ) : EReal)
  | "inv_pi" => some ((Real.pi⁻¹ : ℝ) : EReal)
  | _ => none
-- ==== ReferenceIdeal.lean ====
abbrev S64x128x4 : Shape := ⟨3, ![64, 128, 4]⟩
abbrev S11x64 : Shape := ⟨2, ![11, 64]⟩
abbrev S64 : Shape := ⟨1, ![64]⟩
abbrev S64x64 : Shape := ⟨2, ![64, 64]⟩
abbrev S4x64 : Shape := ⟨2, ![4, 64]⟩
abbrev S64x4 : Shape := ⟨2, ![64, 4]⟩
abbrev S4 : Shape := ⟨1, ![4]⟩
abbrev S_ : Shape := ⟨0, ![]⟩
abbrev S128x127 : Shape := ⟨2, ![128, 127]⟩
abbrev S16256 : Shape := ⟨1, ![16256]⟩
abbrev S64x128x2 : Shape := ⟨3, ![64, 128, 2]⟩
abbrev S64x128x1 : Shape := ⟨3, ![64, 128, 1]⟩
abbrev S64x128x1x2 : Shape := ⟨4, ![64, 128, 1, 2]⟩
abbrev S64x128x2x2 : Shape := ⟨4, ![64, 128, 2, 2]⟩
abbrev S16256x1 : Shape := ⟨2, ![16256, 1]⟩
abbrev S64x16256x4 : Shape := ⟨3, ![64, 16256, 4]⟩
abbrev S64x16256x2 : Shape := ⟨3, ![64, 16256, 2]⟩
abbrev S64x16256x1 : Shape := ⟨3, ![64, 16256, 1]⟩
abbrev S64x16256x1x2 : Shape := ⟨4, ![64, 16256, 1, 2]⟩
abbrev S64x16256x2x2 : Shape := ⟨4, ![64, 16256, 2, 2]⟩
abbrev S64x16256x1x1 : Shape := ⟨4, ![64, 16256, 1, 1]⟩
abbrev S64x16256 : Shape := ⟨2, ![64, 16256]⟩
abbrev S64x16256x11 : Shape := ⟨3, ![64, 16256, 11]⟩
abbrev S64x16256x64 : Shape := ⟨3, ![64, 16256, 64]⟩
abbrev S1x1x64 : Shape := ⟨3, ![1, 1, 64]⟩
abbrev S16256x64x64 : Shape := ⟨3, ![16256, 64, 64]⟩
abbrev S128x64x64 : Shape := ⟨3, ![128, 64, 64]⟩
abbrev S64x128x64 : Shape := ⟨3, ![64, 128, 64]⟩
abbrev S1x1x4 : Shape := ⟨3, ![1, 1, 4]⟩

abbrev nBuf : Space → Nat
  | .hbm => 209
  | .vmem => 0
  | .smem => 0
  | _ => 0

abbrev hbmTy0_0 (i : Nat) : BufTy := match i % 128 with
  | 0 => ⟨S64x128x4, .f32⟩
  | 1 => ⟨S11x64, .f32⟩
  | 2 => ⟨S64, .f32⟩
  | 3 => ⟨S64x64, .f32⟩
  | 4 => ⟨S64, .f32⟩
  | 5 => ⟨S4x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x4, .f32⟩
  | 12 => ⟨S4, .f32⟩
  | 13 => ⟨S_, .i32⟩
  | 14 => ⟨S128x127, .i32⟩
  | 15 => ⟨S128x127, .i32⟩
  | 16 => ⟨S128x127, .i1⟩
  | 17 => ⟨S_, .i32⟩
  | 18 => ⟨S128x127, .i32⟩
  | 19 => ⟨S128x127, .i32⟩
  | 20 => ⟨S128x127, .i32⟩
  | 21 => ⟨S16256, .i32⟩
  | 22 => ⟨S16256, .i32⟩
  | 23 => ⟨S64x128x2, .f32⟩
  | 24 => ⟨S64x128x1, .f32⟩
  | 25 => ⟨S64x128x1, .f32⟩
  | 26 => ⟨S64x128x1, .f32⟩
  | 27 => ⟨S_, .f32⟩
  | 28 => ⟨S64x128x1, .f32⟩
  | 29 => ⟨S64x128x1, .i1⟩
  | 30 => ⟨S64x128x1, .f32⟩
  | 31 => ⟨S_, .f32⟩
  | 32 => ⟨S_, .f32⟩
  | 33 => ⟨S_, .f32⟩
  | 34 => ⟨S_, .f32⟩
  | 35 => ⟨S_, .f32⟩
  | 36 => ⟨S64x128x1, .f32⟩
  | 37 => ⟨S64x128x1, .f32⟩
  | 38 => ⟨S64x128x1, .f32⟩
  | 39 => ⟨S64x128x1, .f32⟩
  | 40 => ⟨S64x128x1, .f32⟩
  | 41 => ⟨S64x128x1, .f32⟩
  | 42 => ⟨S64x128x2, .f32⟩
  | 43 => ⟨S64x128x2, .f32⟩
  | 44 => ⟨S64x128x1x2, .f32⟩
  | 45 => ⟨S64x128x1x2, .f32⟩
  | 46 => ⟨S64x128x2x2, .f32⟩
  | 47 => ⟨S64x128x2x2, .f32⟩
  | 48 => ⟨S64x128x2, .f32⟩
  | 49 => ⟨S_, .f32⟩
  | 50 => ⟨S64x128x2, .f32⟩
  | 51 => ⟨S64x128x4, .f32⟩
  | 52 => ⟨S_, .i32⟩
  | 53 => ⟨S16256, .i32⟩
  | 54 => ⟨S16256, .i1⟩
  | 55 => ⟨S_, .i32⟩
  | 56 => ⟨S16256, .i32⟩
  | 57 => ⟨S16256, .i32⟩
  | 58 => ⟨S16256, .i32⟩
  | 59 => ⟨S16256x1, .i32⟩
  | 60 => ⟨S64x16256x4, .f32⟩
  | 61 => ⟨S_, .i32⟩
  | 62 => ⟨S16256, .i32⟩
  | 63 => ⟨S16256, .i1⟩
  | 64 => ⟨S_, .i32⟩
  | 65 => ⟨S16256, .i32⟩
  | 66 => ⟨S16256, .i32⟩
  | 67 => ⟨S16256, .i32⟩
  | 68 => ⟨S16256x1, .i32⟩
  | 69 => ⟨S64x16256x4, .f32⟩
  | 70 => ⟨S64x16256x2, .f32⟩
  | 71 => ⟨S64x16256x1, .f32⟩
  | 72 => ⟨S64x16256x1, .f32⟩
  | 73 => ⟨S64x16256x1, .f32⟩
  | 74 => ⟨S_, .f32⟩
  | 75 => ⟨S64x16256x1, .f32⟩
  | 76 => ⟨S64x16256x1, .i1⟩
  | 77 => ⟨S64x16256x1, .f32⟩
  | 78 => ⟨S_, .f32⟩
  | 79 => ⟨S_, .f32⟩
  | 80 => ⟨S_, .f32⟩
  | 81 => ⟨S_, .f32⟩
  | 82 => ⟨S_, .f32⟩
  | 83 => ⟨S64x16256x1, .f32⟩
  | 84 => ⟨S64x16256x1, .f32⟩
  | 85 => ⟨S64x16256x1, .f32⟩
  | 86 => ⟨S64x16256x1, .f32⟩
  | 87 => ⟨S64x16256x1, .f32⟩
  | 88 => ⟨S64x16256x1, .f32⟩
  | 89 => ⟨S64x16256x2, .f32⟩
  | 90 => ⟨S64x16256x2, .f32⟩
  | 91 => ⟨S64x16256x1x2, .f32⟩
  | 92 => ⟨S64x16256x1x2, .f32⟩
  | 93 => ⟨S64x16256x2x2, .f32⟩
  | 94 => ⟨S64x16256x2x2, .f32⟩
  | 95 => ⟨S64x16256x2, .f32⟩
  | 96 => ⟨S64x16256x2, .f32⟩
  | 97 => ⟨S64x16256x2, .f32⟩
  | 98 => ⟨S64x16256x2, .f32⟩
  | 99 => ⟨S64x16256x2, .f32⟩
  | 100 => ⟨S64x16256x1, .f32⟩
  | 101 => ⟨S64x16256x1, .f32⟩
  | 102 => ⟨S64x16256x1, .f32⟩
  | 103 => ⟨S_, .f32⟩
  | 104 => ⟨S64x16256x1, .f32⟩
  | 105 => ⟨S64x16256x1, .i1⟩
  | 106 => ⟨S64x16256x1, .f32⟩
  | 107 => ⟨S_, .f32⟩
  | 108 => ⟨S_, .f32⟩
  | 109 => ⟨S_, .f32⟩
  | 110 => ⟨S_, .f32⟩
  | 111 => ⟨S_, .f32⟩
  | 112 => ⟨S64x16256x1, .f32⟩
  | 113 => ⟨S64x16256x1, .f32⟩
  | 114 => ⟨S64x16256x1, .f32⟩
  | 115 => ⟨S64x16256x1, .f32⟩
  | 116 => ⟨S64x16256x1, .f32⟩
  | 117 => ⟨S64x16256x1, .f32⟩
  | 118 => ⟨S64x16256x2, .f32⟩
  | 119 => ⟨S64x16256x2, .f32⟩
  | 120 => ⟨S64x16256x1x2, .f32⟩
  | 121 => ⟨S64x16256x1x2, .f32⟩
  | 122 => ⟨S64x16256x2x2, .f32⟩
  | 123 => ⟨S64x16256x2x2, .f32⟩
  | 124 => ⟨S64x16256x1x1, .f32⟩
  | 125 => ⟨S64x16256x1, .f32⟩
  | 126 => ⟨S64x16256x1x1, .f32⟩
  | 127 => ⟨S64x16256x1, .f32⟩
  | _ => ⟨S64x128x4, .f32⟩

abbrev hbmTy0_1 (i : Nat) : BufTy := match i % 128 with
  | 0 => ⟨S64x16256x1, .f32⟩
  | 1 => ⟨S_, .f32⟩
  | 2 => ⟨S_, .f32⟩
  | 3 => ⟨S_, .f32⟩
  | 4 => ⟨S64x16256x1, .f32⟩
  | 5 => ⟨S64x16256x1, .f32⟩
  | 6 => ⟨S64x16256x2, .f32⟩
  | 7 => ⟨S_, .f32⟩
  | 8 => ⟨S64x16256, .f32⟩
  | 9 => ⟨S64x16256x1, .f32⟩
  | 10 => ⟨S64x16256x1, .f32⟩
  | 11 => ⟨S64x16256x1, .f32⟩
  | 12 => ⟨S64x16256x1, .f32⟩
  | 13 => ⟨S64x16256x1, .f32⟩
  | 14 => ⟨S64x16256x2, .f32⟩
  | 15 => ⟨S64x16256x2, .f32⟩
  | 16 => ⟨S_, .i32⟩
  | 17 => ⟨S16256, .i32⟩
  | 18 => ⟨S16256, .i1⟩
  | 19 => ⟨S_, .i32⟩
  | 20 => ⟨S16256, .i32⟩
  | 21 => ⟨S16256, .i32⟩
  | 22 => ⟨S16256, .i32⟩
  | 23 => ⟨S16256x1, .i32⟩
  | 24 => ⟨S64x16256x4, .f32⟩
  | 25 => ⟨S64x16256x11, .f32⟩
  | 26 => ⟨S64x16256x64, .f32⟩
  | 27 => ⟨S1x1x64, .f32⟩
  | 28 => ⟨S64x16256x64, .f32⟩
  | 29 => ⟨S64x16256x64, .f32⟩
  | 30 => ⟨S64x16256x64, .f32⟩
  | 31 => ⟨S64x16256x64, .f32⟩
  | 32 => ⟨S_, .f32⟩
  | 33 => ⟨S64x16256x64, .f32⟩
  | 34 => ⟨S64x16256x64, .f32⟩
  | 35 => ⟨S_, .f32⟩
  | 36 => ⟨S64x16256x64, .f32⟩
  | 37 => ⟨S64x16256x64, .f32⟩
  | 38 => ⟨S64x16256x64, .f32⟩
  | 39 => ⟨S64x16256x64, .f32⟩
  | 40 => ⟨S1x1x64, .f32⟩
  | 41 => ⟨S64x16256x64, .f32⟩
  | 42 => ⟨S64x16256x64, .f32⟩
  | 43 => ⟨S16256x64x64, .f32⟩
  | 44 => ⟨S_, .f32⟩
  | 45 => ⟨S128x64x64, .f32⟩
  | 46 => ⟨S16256x1, .i32⟩
  | 47 => ⟨S128x64x64, .f32⟩
  | 48 => ⟨S64x128x64, .f32⟩
  | 49 => ⟨S_, .f32⟩
  | 50 => ⟨S64x128x64, .f32⟩
  | 51 => ⟨S64x128x64, .f32⟩
  | 52 => ⟨S64x128x64, .f32⟩
  | 53 => ⟨S1x1x64, .f32⟩
  | 54 => ⟨S64x128x64, .f32⟩
  | 55 => ⟨S64x128x64, .f32⟩
  | 56 => ⟨S64x128x64, .f32⟩
  | 57 => ⟨S64x128x64, .f32⟩
  | 58 => ⟨S1x1x64, .f32⟩
  | 59 => ⟨S64x128x64, .f32⟩
  | 60 => ⟨S64x128x64, .f32⟩
  | 61 => ⟨S_, .f32⟩
  | 62 => ⟨S64x128x64, .f32⟩
  | 63 => ⟨S64x128x64, .f32⟩
  | 64 => ⟨S64x128x64, .f32⟩
  | 65 => ⟨S1x1x64, .f32⟩
  | 66 => ⟨S64x128x64, .f32⟩
  | 67 => ⟨S64x128x64, .f32⟩
  | 68 => ⟨S_, .f32⟩
  | 69 => ⟨S64x128x64, .f32⟩
  | 70 => ⟨S64x128x64, .f32⟩
  | 71 => ⟨S64x128x4, .f32⟩
  | 72 => ⟨S1x1x4, .f32⟩
  | 73 => ⟨S64x128x4, .f32⟩
  | 74 => ⟨S64x128x4, .f32⟩
  | 75 => ⟨S64x128x2, .f32⟩
  | 76 => ⟨S64x128x2, .f32⟩
  | 77 => ⟨S64x128x2, .f32⟩
  | 78 => ⟨S64x128x2, .f32⟩
  | 79 => ⟨S64x128x4, .f32⟩
  | 80 => ⟨S64x128x4, .f32⟩
  | _ => ⟨S64x128x4, .f32⟩

abbrev hbmTy (i : Nat) : BufTy := match i / 128 with
  | 0 => hbmTy0_0 i
  | 1 => hbmTy0_1 i
  | _ => ⟨S64x128x4, .f32⟩

abbrev bufTy : (tb : Table) → Fin (tcTables nBuf tb) → BufTy
  | .hbm, ⟨i, _⟩ => hbmTy i
  | _, _ => ⟨S64x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_cst_10 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_cst_14 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_call1_v0 : Ref sig .tc := ⟨.hbm, 134, rfl⟩
abbrev main_call1_cst : Ref sig .tc := ⟨.hbm, 135, rfl⟩
abbrev main_call1_v1 : Ref sig .tc := ⟨.hbm, 136, rfl⟩
abbrev main_call1_v2 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_18 : Ref sig .tc := ⟨.hbm, 144, rfl⟩
abbrev main_v106 : Ref sig .tc := ⟨.hbm, 145, rfl⟩
abbrev main_v107 : Ref sig .tc := ⟨.hbm, 146, rfl⟩
abbrev main_c_19 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_call2_v0 : Ref sig .tc := ⟨.hbm, 158, rfl⟩
abbrev main_call2_v1 : Ref sig .tc := ⟨.hbm, 159, rfl⟩
abbrev main_call2_cst : Ref sig .tc := ⟨.hbm, 160, rfl⟩
abbrev main_call2_v2 : Ref sig .tc := ⟨.hbm, 161, rfl⟩
abbrev main_call2_v3 : Ref sig .tc := ⟨.hbm, 162, rfl⟩
abbrev main_call2_cst_0 : Ref sig .tc := ⟨.hbm, 163, rfl⟩
abbrev main_call2_v4 : Ref sig .tc := ⟨.hbm, 164, rfl⟩
abbrev main_call2_v5 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_20 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_21 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_call3_cst : Ref sig .tc := ⟨.hbm, 189, rfl⟩
abbrev main_call3_v0 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_call4_cst : Ref sig .tc := ⟨.hbm, 196, rfl⟩
abbrev main_call4_v0 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩

abbrev nD : Nat := 1
abbrev τ : Topo := Topo.v7x

variable {F : FTy → Type} [FloatOps F]
-- ==== Proof.Spec.lean ====
/- The message-passing step on one scene, element by element over the extended reals: what both programs compute.
   A scene is 128 nodes of four numbers (position, velocity). `Params` are the weights. Node `n`'s own frame is turned by
   the direction of its velocity; an edge from `s` to `r` carries eleven features in the frame of `r`; its message is a
   two-layer network of them; a node takes the mean message of the 127 other nodes, and a three-layer network predicts
   its change, which is turned back and added. -/
module

public import Idealize.ShloMosaic.PureOps.Ideal

@[expose] public section

noncomputable section

namespace Cert.Spec

open Idealize.ShloMosaic

/-- The weights and biases. -/
structure Params where
  w1 : Fin 11 → Fin 64 → EReal
  b1 : Fin 64 → EReal
  w2 : Fin 64 → Fin 64 → EReal
  b2 : Fin 64 → EReal
  rw : Fin 4 → Fin 64 → EReal
  rb : Fin 64 → EReal
  o1 : Fin 64 → Fin 64 → EReal
  c1 : Fin 64 → EReal
  o2 : Fin 64 → Fin 64 → EReal
  c2 : Fin 64 → EReal
  o3 : Fin 64 → Fin 4 → EReal
  c3 : Fin 4 → EReal

variable (P : Params) (X : Fin 128 → Fin 4 → EReal)

/-- Cosine of the direction of node `n`'s velocity. -/
def co (n : Fin 128) : EReal := Ideal.cos (Ideal.atan2 (X n 3) (X n 2))
/-- Sine of the direction of node `n`'s velocity. -/
def si (n : Fin 128) : EReal := Ideal.sin (Ideal.atan2 (X n 3) (X n 2))
/-- First coordinate of a vector `(a, b)` in the frame of node `n`. -/
def turnX (n : Fin 128) (a b : EReal) : EReal := co X n * a + si X n * b
/-- Second coordinate of a vector `(a, b)` in the frame of node `n`. -/
def turnY (n : Fin 128) (a b : EReal) : EReal := co X n * b - si X n * a
/-- First coordinate of the position of `s` relative to `r`. -/
def dx (s r : Fin 128) : EReal := X s 0 - X r 0
/-- Second coordinate of the position of `s` relative to `r`. -/
def dy (s r : Fin 128) : EReal := X s 1 - X r 1
/-- Position of `s` relative to `r`, in the frame of `r`. -/
def rx (s r : Fin 128) : EReal := turnX X r (dx X s r) (dy X s r)
/-- Position of `s` relative to `r`, in the frame of `r`. -/
def ry (s r : Fin 128) : EReal := turnY X r (dx X s r) (dy X s r)
/-- Angle between the directions of `s` and `r`, in half turns. -/
def euler (s r : Fin 128) : EReal :=
  Ideal.atan2 (si X s * co X r - co X s * si X r) (co X s * co X r + si X s * si X r) * ((Real.pi⁻¹ : ℝ) : EReal)
/-- Distance of `s` and `r`. -/
def dist (s r : Fin 128) : EReal := Ideal.sqrt (dx X s r * dx X s r + dy X s r * dy X s r)
/-- Direction of the relative position, in the frame of `r`. -/
def sph (s r : Fin 128) : EReal := Ideal.atan2 (ry X s r) (rx X s r)
/-- A node's own features in its own frame: the origin and its velocity. -/
def own (n : Fin 128) : Fin 4 → EReal := ![0, 0, turnX X n (X n 2) (X n 3), turnY X n (X n 2) (X n 3)]
/-- The eleven features of the edge from `s` to `r`. -/
def feat (s r : Fin 128) : Fin 11 → EReal :=
  ![rx X s r, ry X s r, euler X s r, dist X s r, sph X s r, turnX X r (X s 2) (X s 3), turnY X r (X s 2) (X s 3),
    own X r 0, own X r 1, own X r 2, own X r 3]
/-- First layer of the message network, before its activation. -/
def pre (s r : Fin 128) (h : Fin 64) : EReal := (∑ k, feat X s r k * P.w1 k h) + P.b1 h
/-- Second layer of the message network, before its bias: `x · logistic x` of the first, times the weights. -/
def hid (s r : Fin 128) (h : Fin 64) : EReal := ∑ k, (pre P X s r k * Ideal.logistic (pre P X s r k)) * P.w2 k h
/-- The message of the edge from `s` to `r`. -/
def msg (s r : Fin 128) (h : Fin 64) : EReal := hid P X s r h + P.b2 h
/-- The mean message a node receives from the other nodes. -/
def agg (n : Fin 128) (h : Fin 64) : EReal := (∑ s, if s = n then 0 else msg P X s n h) * ((1 / 127 : ℝ) : EReal)
/-- The mean message and a linear map of the node's own features. -/
def aug (n : Fin 128) (h : Fin 64) : EReal := agg P X n h + ((∑ k, own X n k * P.rw k h) + P.rb h)
/-- First layer of the output network, before its activation. -/
def lin1 (n : Fin 128) (h : Fin 64) : EReal := (∑ k, aug P X n k * P.o1 k h) + P.c1 h
/-- Second layer of the output network, before its activation. -/
def lin2 (n : Fin 128) (h : Fin 64) : EReal := (∑ k, max (lin1 P X n k) 0 * P.o2 k h) + P.c2 h
/-- The predicted change in the node's frame. -/
def pred (n : Fin 128) (j : Fin 4) : EReal := (∑ k, max (lin2 P X n k) 0 * P.o3 k j) + P.c3 j
/-- The predicted change turned back. -/
def back (n : Fin 128) : Fin 4 → EReal :=
  ![co X n * pred P X n 0 - si X n * pred P X n 1, si X n * pred P X n 0 + co X n * pred P X n 1,
    co X n * pred P X n 2 - si X n * pred P X n 3, si X n * pred P X n 2 + co X n * pred P X n 3]
/-- The node's new numbers. -/
def out (n : Fin 128) (j : Fin 4) : EReal := X n j + back P X n j

end Cert.Spec

end
-- ==== Proof.KernelPay.lean ====
/- What the kernel body's values are, element by element: each named value of the body, read at an index, is the function
   of Proof/Spec.lean it stands for, on the scene the body loaded. -/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Pay

open Cert.KernelIdeal Cert.KernelIdeal.Gen Cert.Spec

/-- The scene a block holds. -/
def scene (v0 : FVec Ideal S1x128x4 .f32) : Fin 128 → Fin 4 → EReal := fun n k => v0 (ix3 0 n k)

theorem scene_at (v0 : FVec Ideal S1x128x4 .f32) (n : Fin 128) (k : Fin 4) : scene v0 n k = v0 (ix3 0 n k) := rfl

variable (v0 : FVec Ideal S1x128x4 .f32)

theorem pay2_at (n : Fin 128) (k : Fin 4) : k0_pay2 (F := Ideal) v0 (ix2 n k) = scene v0 n k := by
  pointwise [k0_pay2, scene]

theorem pay3_at (n : Fin 128) : k0_pay3 (F := Ideal) v0 (ix2 n 0) = scene v0 n 0 := by
  pointwise [k0_pay3, k0_pay2, scene]

theorem pay4_at (n : Fin 128) : k0_pay4 (F := Ideal) v0 (ix2 n 0) = scene v0 n 1 := by
  pointwise [k0_pay4, k0_pay2, scene]

theorem pay5_at (n : Fin 128) : k0_pay5 (F := Ideal) v0 (ix2 n 0) = scene v0 n 2 := by
  pointwise [k0_pay5, k0_pay2, scene]

theorem pay6_at (n : Fin 128) : k0_pay6 (F := Ideal) v0 (ix2 n 0) = scene v0 n 3 := by
  pointwise [k0_pay6, k0_pay2, scene]

theorem pay8_at (n : Fin 128) : k0_pay8 (F := Ideal) v0 (ix2 n 0) = co (scene v0) n := by
  pointwise [k0_pay8, k0_pay7, pay5_at, pay6_at, co]

theorem pay9_at (n : Fin 128) : k0_pay9 (F := Ideal) v0 (ix2 n 0) = si (scene v0) n := by
  pointwise [k0_pay9, k0_pay7, pay5_at, pay6_at, si]

theorem pay10_at (n : Fin 128) : k0_pay10 (F := Ideal) v0 (ix2 n 0) = own (scene v0) n 2 := by
  pointwise [k0_pay10, pay5_at, pay6_at, pay8_at, pay9_at]
  rfl

theorem pay11_at (n : Fin 128) : k0_pay11 (F := Ideal) v0 (ix2 n 0) = own (scene v0) n 3 := by
  pointwise [k0_pay11, pay5_at, pay6_at, pay8_at, pay9_at]
  rfl

theorem pay13_at (n : Fin 128) : k0_pay13 (F := Ideal) v0 (ix2 0 n) = co (scene v0) n := by
  pointwise [k0_pay13, k0_pay12, pay8_at]

theorem pay14_at (n : Fin 128) : k0_pay14 (F := Ideal) v0 (ix2 0 n) = si (scene v0) n := by
  pointwise [k0_pay14, k0_pay12, pay9_at]

theorem pay15_at (n : Fin 128) : k0_pay15 (F := Ideal) v0 (ix2 0 n) = own (scene v0) n 2 := by
  pointwise [k0_pay15, k0_pay12, pay10_at]

theorem pay16_at (n : Fin 128) : k0_pay16 (F := Ideal) v0 (ix2 0 n) = own (scene v0) n 3 := by
  pointwise [k0_pay16, k0_pay12, pay11_at]

theorem pay17_at (s r : Fin 128) : k0_pay17 (F := Ideal) v0 (ix2 s r) = dx (scene v0) s r := by
  pointwise [k0_pay17, k0_pay12, pay3_at, dx]

theorem pay18_at (s r : Fin 128) : k0_pay18 (F := Ideal) v0 (ix2 s r) = dy (scene v0) s r := by
  pointwise [k0_pay18, k0_pay12, pay4_at, dy]

theorem pay19_at (s r : Fin 128) : k0_pay19 (F := Ideal) v0 (ix2 s r) = rx (scene v0) s r := by
  pointwise [k0_pay19, pay13_at, pay14_at, pay17_at, pay18_at, rx, turnX]

theorem pay20_at (s r : Fin 128) : k0_pay20 (F := Ideal) v0 (ix2 s r) = ry (scene v0) s r := by
  pointwise [k0_pay20, pay13_at, pay14_at, pay17_at, pay18_at, ry, turnY]

/-- The kernel's constant `1/π`, as its table of named constants has it. -/
theorem inv_pi : Named.named (F := Ideal) κ "inv_pi" (φ := .f32) 0x3EA2F983#32 = ((Real.pi⁻¹ : ℝ) : EReal) :=
  IdealRules.named_const.ideal_named_scalar _ _ _ _ rfl

/-- The kernel's constant `1/127`, as its table of named constants has it. -/
theorem inv_deg : Named.named (F := Ideal) κ "inv_deg" (φ := .f32) 0x3C010204#32 = ((1 / 127 : ℝ) : EReal) :=
  IdealRules.named_const.ideal_named_scalar _ _ _ _ rfl

theorem pay21_at (s r : Fin 128) : mulf (k0_pay21 (F := Ideal) v0) (k0_pay22 (F := Ideal)) (ix2 s r) = euler (scene v0) s r := by
  pointwise [k0_pay21, k0_pay22, pay8_at, pay9_at, pay13_at, pay14_at, euler, inv_pi]

end Cert.KernelIdeal.Pay

end
-- ==== Proof.KernelBody.lean ====
/- What the kernel body stores, element by element: the message network over all pairs of nodes, the masked sum, the output
   network and the turn back, on the values of Proof/KernelPay.lean, are the functions of Proof/Spec.lean. -/
module

public import proofs.«01_k».proof.Proof.KernelPay

@[expose] public section

set_option maxRecDepth 16384

noncomputable section

open Idealize.ShloMosaic Idealize.ShloMosaic.TcCoe Idealize.SL.Sem

namespace Cert.KernelIdeal.Pay

open Cert.KernelIdeal Cert.KernelIdeal.Gen Cert.Spec

/-- The weights the blocks hold; a bias is a block of one row. -/
def params (w1 : FVec Ideal S11x64 .f32) (b1 : FVec Ideal S1x64 .f32) (w2 : FVec Ideal S64x64 .f32) (b2 : FVec Ideal S1x64 .f32)
    (rw : FVec Ideal S4x64 .f32) (rb : FVec Ideal S1x64 .f32) (o1 : FVec Ideal S64x64 .f32) (c1 : FVec Ideal S1x64 .f32)
    (o2 : FVec Ideal S64x64 .f32) (c2 : FVec Ideal S1x64 .f32) (o3 : FVec Ideal S64x4 .f32) (c3 : FVec Ideal S1x4 .f32) : Params where
  w1 k h := w1 (ix2 k h)
  b1 h := b1 (ix2 0 h)
  w2 k h := w2 (ix2 k h)
  b2 h := b2 (ix2 0 h)
  rw k h := rw (ix2 k h)
  rb h := rb (ix2 0 h)
  o1 k h := o1 (ix2 k h)
  c1 h := c1 (ix2 0 h)
  o2 k h := o2 (ix2 k h)
  c2 h := c2 (ix2 0 h)
  o3 k h := o3 (ix2 k h)
  c3 h := c3 (ix2 0 h)

/-- The eleven features, picked one after the other. -/
theorem feat_ladder (X : Fin 128 → Fin 4 → EReal) (s r : Fin 128) (k : Fin 11) :
    (if h : (k : ℕ) < 1 then rx X s r
      else if h : (k : ℕ) - 1 < 1 then ry X s r
      else if h : (k : ℕ) - 1 - 1 < 1 then euler X s r
      else if h : (k : ℕ) - 1 - 1 - 1 < 1 then dist X s r
      else if h : (k : ℕ) - 1 - 1 - 1 - 1 < 1 then sph X s r
      else if h : (k : ℕ) - 1 - 1 - 1 - 1 - 1 < 1 then turnX X r (X s 2) (X s 3)
      else if h : (k : ℕ) - 1 - 1 - 1 - 1 - 1 - 1 < 1 then turnY X r (X s 2) (X s 3)
      else if h : (k : ℕ) - 1 - 1 - 1 - 1 - 1 - 1 - 1 < 1 then 0
      else if h : (k : ℕ) - 1 - 1 - 1 - 1 - 1 - 1 - 1 - 1 < 1 then 0
      else if h : (k : ℕ) - 1 - 1 - 1 - 1 - 1 - 1 - 1 - 1 - 1 < 1 then own X r 2
      else own X r 3) = feat X s r k := by
  fin_cases k <;> rfl

set_option maxHeartbeats 1600000 in
/-- The second product of the message network, over all pairs of nodes: row `i` is the pair `(i / 128, i % 128)`. -/
theorem pay23_at (v0 : FVec Ideal S1x128x4 .f32) (w1 : FVec Ideal S11x64 .f32) (b1 : FVec Ideal S1x64 .f32) (w2 : FVec Ideal S64x64 .f32)
    (b2 : FVec Ideal S1x64 .f32)
    (rw : FVec Ideal S4x64 .f32) (rb : FVec Ideal S1x64 .f32) (o1 : FVec Ideal S64x64 .f32) (c1 : FVec Ideal S1x64 .f32)
    (o2 : FVec Ideal S64x64 .f32) (c2 : FVec Ideal S1x64 .f32) (o3 : FVec Ideal S64x4 .f32) (c3 : FVec Ideal S1x4 .f32)
    (i : Fin 16384) (h : Fin 64) :
    k0_pay23 (F := Ideal) (k0_pay5 v0) (k0_pay6 v0) (k0_pay13 v0) (k0_pay14 v0) (k0_pay15 v0) (k0_pay16 v0) (k0_pay17 v0)
      (k0_pay18 v0) (k0_pay19 v0) (k0_pay20 v0) (k0_pay21 v0) (k0_pay22 (F := Ideal)) w1 b1 w2 (ix2 i h)
    = hid (params w1 b1 w2 b2 rw rb o1 c1 o2 c2 o3 c3) (scene v0) ⟨i / 128, by omega⟩ ⟨i % 128, by omega⟩ h := by
  have he : ∀ s r : Fin 128, k0_pay21 (F := Ideal) v0 (ix2 s r) * k0_pay22 (F := Ideal) (ix2 s r) = euler (scene v0) s r := pay21_at v0
  pointwise [k0_pay23]
  simp only [he, pay5_at, pay6_at, pay13_at, pay14_at, pay15_at, pay16_at, pay17_at, pay18_at, pay19_at, pay20_at]
  refine Finset.sum_congr rfl fun k _ => ?_
  have hk : ∀ k : Fin 64, _ = pre (params w1 b1 w2 b2 rw rb o1 c1 o2 c2 o3 c3) (scene v0) ⟨i / 128, by omega⟩ ⟨i % 128, by omega⟩ k :=
    fun k => congrArg (· + b1 (ix2 0 k)) (Finset.sum_congr rfl fun l _ => congrArg (· * w1 (ix2 l k))
      (feat_ladder (scene v0) ⟨i / 128, by omega⟩ ⟨i % 128, by omega⟩ l))
  exact congrArg (· * w2 (ix2 k h)) (congrArg₂ (· * ·) (hk k) (congrArg Ideal.logistic (hk k)))

end Cert.KernelIdeal.Pay

end
-- ==== Proof.KernelOut.lean ====
/- What the kernel body stores, element by element: the masked mean of the messages, the output network and the turn back,
   on the values of Proof/KernelPay.lean and Proof/KernelBody.lean, are the functions of Proof/Spec.lean. -/
module

public import proofs.«01_k».proof.Proof.KernelBody

@[expose] public section

set_option maxRecDepth 16384

noncomputable section

open Idealize.ShloMosaic Idealize.ShloMosaic.TcCoe Idealize.SL.Sem

namespace Cert.KernelIdeal.Pay

open Cert.KernelIdeal Cert.KernelIdeal.Gen Cert.Spec

/-- The kernel's mask of the diagonal: `0` on it, `1` off it. -/
theorem mask_at (s n : Fin 128) :
    FloatOps.sitofp (F := Ideal) .f32 (BitVec.setWidth 32 (IntOp.cmpi .ne (BitVec.ofNat 32 s.val) (BitVec.ofNat 32 n.val)))
    = if s = n then (0 : EReal) else 1 := by
  have hval : FloatOps.sitofp (F := Ideal) .f32 (BitVec.setWidth 32 (IntOp.cmpi .ne (BitVec.ofNat 32 s.val) (BitVec.ofNat 32 n.val)))
      = (((BitVec.setWidth 32 (IntOp.cmpi .ne (BitVec.ofNat 32 s.val) (BitVec.ofNat 32 n.val))).toInt : ℝ) : EReal) := rfl
  rw [hval]
  by_cases h : s = n
  · subst h
    simp [IntOp.cmpi]
  · have hne : BitVec.ofNat 32 s.val ≠ BitVec.ofNat 32 n.val := by
      intro h'
      have := congrArg BitVec.toNat h'
      simp only [BitVec.toNat_ofNat] at this
      exact h (Fin.ext (by omega))
    simp [IntOp.cmpi, bne_iff_ne.mpr hne, h]

/-- A node's own features, picked one after the other. -/
theorem own_ladder (X : Fin 128 → Fin 4 → EReal) (n : Fin 128) (k : Fin 4) :
    (if h : (k : ℕ) < 1 then 0
      else if h : (k : ℕ) - 1 < 1 then 0
      else if h : (k : ℕ) - 1 - 1 < 1 then own X n 2
      else own X n 3) = own X n k := by
  fin_cases k <;> rfl

/-- The predicted change turned back, picked one coordinate after the other. -/
theorem back_ladder (P : Params) (X : Fin 128 → Fin 4 → EReal) (n : Fin 128) (j : Fin 4) :
    (if h : (j : ℕ) < 1 then co X n * pred P X n j - si X n * pred P X n ⟨1 + j, by omega⟩
      else if h : (j : ℕ) - 1 < 1 then si X n * pred P X n ⟨j - 1, by omega⟩ + co X n * pred P X n ⟨1 + (j - 1), by omega⟩
      else if h : (j : ℕ) - 1 - 1 < 1 then
        co X n * pred P X n ⟨2 + (j - 1 - 1), by omega⟩ - si X n * pred P X n ⟨3 + (j - 1 - 1), by omega⟩
      else si X n * pred P X n ⟨2 + (j - 1 - 1 - 1), by omega⟩ + co X n * pred P X n ⟨3 + (j - 1 - 1 - 1), by omega⟩)
    = back P X n j := by
  fin_cases j <;> rfl

section
variable (X : Fin 128 → Fin 4 → EReal)
    (w1 : FVec Ideal S11x64 .f32) (b1 : FVec Ideal S1x64 .f32) (w2 : FVec Ideal S64x64 .f32)
    (b2 : FVec Ideal S1x64 .f32)
    (rw : FVec Ideal S4x64 .f32) (rb : FVec Ideal S1x64 .f32) (o1 : FVec Ideal S64x64 .f32) (c1 : FVec Ideal S1x64 .f32)
    (o2 : FVec Ideal S64x64 .f32) (c2 : FVec Ideal S1x64 .f32) (o3 : FVec Ideal S64x4 .f32) (c3 : FVec Ideal S1x4 .f32)

set_option maxHeartbeats 1600000 in
/-- The second layer of the output network, before its activation. -/
theorem pay24_at (v11 v14 : FVec Ideal S128x1 .f32) (v102 : FVec Ideal S16384x64 .f32)
    (h11 : ∀ (n : Fin 128) (z : Fin 1), v11 (ix2 n z) = own X n 2) (h14 : ∀ (n : Fin 128) (z : Fin 1), v14 (ix2 n z) = own X n 3)
    (h102 : ∀ (s r : Fin 128) (h : Fin 64), v102 (ix2 ⟨s.val * 128 + r.val, by omega⟩ h)
      = hid (params w1 b1 w2 b2 rw rb o1 c1 o2 c2 o3 c3) X s r h)
    (n : Fin 128) (h : Fin 64) :
    k0_pay24 (F := Ideal) v11 v14 v102 b2 rw rb o1 c1 o2 c2 (ix2 n h)
    = lin2 (params w1 b1 w2 b2 rw rb o1 c1 o2 c2 o3 c3) X n h := by
  pointwise [k0_pay24]
  simp only [h11, h14, h102, mask_at, inv_deg]
  refine congrArg (· + c2 (ix2 0 h)) (Finset.sum_congr rfl fun k _ => congrArg (fun z => max z 0 * o2 (ix2 k h)) ?_)
  refine congrArg (· + c1 (ix2 0 k)) (Finset.sum_congr rfl fun l _ => congrArg (· * o1 (ix2 l k)) ?_)
  rw [add_assoc]
  refine congrArg₂ (· + ·) (congrArg (· * ((1 / 127 : ℝ) : EReal)) (Finset.sum_congr rfl fun s _ => ?_))
    (congrArg (· + rb (ix2 0 l)) (Finset.sum_congr rfl fun x _ => congrArg (· * rw (ix2 x l)) (own_ladder X n x)))
  by_cases hs : s = n
  · rw [if_pos hs, if_pos hs, mul_zero]
  · rw [if_neg hs, if_neg hs, mul_one]; rfl

/-- What the body stores for node `n`. -/
theorem pay1_at (v1 : FVec Ideal S128x4 .f32) (v7 v8 : FVec Ideal S128x1 .f32) (v142 : FVec Ideal S128x64 .f32)
    (h1 : ∀ (n : Fin 128) (j : Fin 4), v1 (ix2 n j) = X n j)
    (h7 : ∀ (n : Fin 128) (z : Fin 1), v7 (ix2 n z) = co X n) (h8 : ∀ (n : Fin 128) (z : Fin 1), v8 (ix2 n z) = si X n)
    (h142 : ∀ (n : Fin 128) (h : Fin 64), v142 (ix2 n h) = lin2 (params w1 b1 w2 b2 rw rb o1 c1 o2 c2 o3 c3) X n h)
    (n : Fin 128) (j : Fin 4) :
    k0_pay1 (F := Ideal) v1 v7 v8 v142 (Scalar.ofBits .f32 0x00000000#32) o3 c3 (ix3 0 n j)
    = out (params w1 b1 w2 b2 rw rb o1 c1 o2 c2 o3 c3) X n j := by
  have hp : ∀ j : Fin 4, ∑ x : Fin 64, max (lin2 (params w1 b1 w2 b2 rw rb o1 c1 o2 c2 o3 c3) X n x) 0 * o3 (ix2 x j) + c3 (ix2 0 j)
      = pred (params w1 b1 w2 b2 rw rb o1 c1 o2 c2 o3 c3) X n j := fun j => rfl
  pointwise [k0_pay1]
  simp only [h1, h7, h8, h142, hp]
  exact congrArg (X n j + ·) (back_ladder _ X n j)

end

/-- The whole body: from the blocks it loads to the block it stores. -/
theorem body_at (v0 : FVec Ideal S1x128x4 .f32)
    (w1 : FVec Ideal S11x64 .f32) (b1 : FVec Ideal S1x64 .f32) (w2 : FVec Ideal S64x64 .f32)
    (b2 : FVec Ideal S1x64 .f32)
    (rw : FVec Ideal S4x64 .f32) (rb : FVec Ideal S1x64 .f32) (o1 : FVec Ideal S64x64 .f32) (c1 : FVec Ideal S1x64 .f32)
    (o2 : FVec Ideal S64x64 .f32) (c2 : FVec Ideal S1x64 .f32) (o3 : FVec Ideal S64x4 .f32) (c3 : FVec Ideal S1x4 .f32)
    (n : Fin 128) (j : Fin 4) :
    k0_pay1 (F := Ideal) (k0_pay2 v0) (k0_pay8 v0) (k0_pay9 v0)
      (k0_pay24 (k0_pay10 v0) (k0_pay11 v0)
        (k0_pay23 (k0_pay5 v0) (k0_pay6 v0) (k0_pay13 v0) (k0_pay14 v0) (k0_pay15 v0) (k0_pay16 v0) (k0_pay17 v0)
          (k0_pay18 v0) (k0_pay19 v0) (k0_pay20 v0) (k0_pay21 v0) (k0_pay22 (F := Ideal)) w1 b1 w2)
        b2 rw rb o1 c1 o2 c2) (Scalar.ofBits .f32 0x00000000#32) o3 c3 (ix3 0 n j)
    = out (params w1 b1 w2 b2 rw rb o1 c1 o2 c2 o3 c3) (scene v0) n j := by
  have hz : ∀ z : Fin 1, z = 0 := fun z => Subsingleton.elim _ _
  refine pay1_at (scene v0) w1 b1 w2 b2 rw rb o1 c1 o2 c2 o3 c3 _ _ _ _ (pay2_at v0)
    (fun n z => by rw [hz z]; exact pay8_at v0 n) (fun n z => by rw [hz z]; exact pay9_at v0 n) (fun n h => ?_) n j
  refine pay24_at (scene v0) w1 b1 w2 b2 rw rb o1 c1 o2 c2 o3 c3 _ _ _
    (fun n z => by rw [hz z]; exact pay10_at v0 n) (fun n z => by rw [hz z]; exact pay11_at v0 n) (fun s r h => ?_) n h
  refine (pay23_at v0 w1 b1 w2 b2 rw rb o1 c1 o2 c2 o3 c3 _ h).trans ?_
  have hs : (⟨(s.val * 128 + r.val) / 128, by omega⟩ : Fin 128) = s := Fin.ext (by show (s.val * 128 + r.val) / 128 = s.val; omega)
  have hr : (⟨(s.val * 128 + r.val) % 128, by omega⟩ : Fin 128) = r := Fin.ext (by show (s.val * 128 + r.val) % 128 = r.val; omega)
  exact congrArg₂ (fun a b => hid _ (scene v0) a b h) hs hr

end Cert.KernelIdeal.Pay

end
-- ==== Proof.Final.lean ====
/- The kernel's result array: each grid point writes the block of one scene, and the blocks tile the array. -/
module

public import proofs.«01_k».proof.Proof.KernelOut
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Final

open Cert.KernelIdeal Cert.KernelIdeal.Gen Cert.Spec
open Idealize.ShloMosaic.Pipeline (Dat)

variable (m : (ℓ : Loc nD τ sig) → Buf (Elt Ideal) ℓ) (c : Dev nD)

/-- The weights the arguments hold. -/
def params : Params where
  w1 k h := (m ((c : Thread nD τ).loc main_arg1) : FVec Ideal S11x64 .f32) (ix2 k h)
  b1 h := (m ((c : Thread nD τ).loc main_arg2) : FVec Ideal S64 .f32) (ix1 h)
  w2 k h := (m ((c : Thread nD τ).loc main_arg3) : FVec Ideal S64x64 .f32) (ix2 k h)
  b2 h := (m ((c : Thread nD τ).loc main_arg4) : FVec Ideal S64 .f32) (ix1 h)
  rw k h := (m ((c : Thread nD τ).loc main_arg5) : FVec Ideal S4x64 .f32) (ix2 k h)
  rb h := (m ((c : Thread nD τ).loc main_arg6) : FVec Ideal S64 .f32) (ix1 h)
  o1 k h := (m ((c : Thread nD τ).loc main_arg7) : FVec Ideal S64x64 .f32) (ix2 k h)
  c1 h := (m ((c : Thread nD τ).loc main_arg8) : FVec Ideal S64 .f32) (ix1 h)
  o2 k h := (m ((c : Thread nD τ).loc main_arg9) : FVec Ideal S64x64 .f32) (ix2 k h)
  c2 h := (m ((c : Thread nD τ).loc main_arg10) : FVec Ideal S64 .f32) (ix1 h)
  o3 k h := (m ((c : Thread nD τ).loc main_arg11) : FVec Ideal S64x4 .f32) (ix2 k h)
  c3 h := (m ((c : Thread nD τ).loc main_arg12) : FVec Ideal S4 .f32) (ix1 h)

/-- The state of the nodes of scene `b`. -/
def scene (b : Fin 64) (n : Fin 128) (k : Fin 4) : EReal :=
  (m ((c : Thread nD τ).loc main_arg0) : FVec Ideal S64x128x4 .f32) (ix3 b n k)

/-- The array the kernel computes. -/
def result : FVec Ideal S64x128x4 .f32 := fun i => out (params m c) (scene m c (i 0)) (i 1) (i 2)

theorem idx : ∀ t : Fin cfg0.N, win0_0.index t = ![(grid0.coords t 0).val, 0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![(grid0.coords t 0).val, 0, 0] :=
  (by decide +kernel : ∀ t : Fin grid0.N, _)

/-! ## The blocks the grid points read -/

theorem block_1 (t : Fin cfg0.N) : iblk m c 1 t = m ((c : Thread nD τ).loc main_arg1) := by
  blk_ext! [iblk, V, idx t]

theorem block_2 (t : Fin cfg0.N) (h : Fin 64) : (iblk m c 2 t : FVec Ideal S1x64 .f32) (ix2 0 h)
    = (m ((c : Thread nD τ).loc main_arg2) : FVec Ideal S64 .f32) (ix1 h) := by
  blk_ext! [iblk, V, idx t]

theorem block_3 (t : Fin cfg0.N) : iblk m c 3 t = m ((c : Thread nD τ).loc main_arg3) := by
  blk_ext! [iblk, V, idx t]

theorem block_4 (t : Fin cfg0.N) (h : Fin 64) : (iblk m c 4 t : FVec Ideal S1x64 .f32) (ix2 0 h)
    = (m ((c : Thread nD τ).loc main_arg4) : FVec Ideal S64 .f32) (ix1 h) := by
  blk_ext! [iblk, V, idx t]

theorem block_5 (t : Fin cfg0.N) : iblk m c 5 t = m ((c : Thread nD τ).loc main_arg5) := by
  blk_ext! [iblk, V, idx t]

theorem block_6 (t : Fin cfg0.N) (h : Fin 64) : (iblk m c 6 t : FVec Ideal S1x64 .f32) (ix2 0 h)
    = (m ((c : Thread nD τ).loc main_arg6) : FVec Ideal S64 .f32) (ix1 h) := by
  blk_ext! [iblk, V, idx t]

theorem block_7 (t : Fin cfg0.N) : iblk m c 7 t = m ((c : Thread nD τ).loc main_arg7) := by
  blk_ext! [iblk, V, idx t]

theorem block_8 (t : Fin cfg0.N) (h : Fin 64) : (iblk m c 8 t : FVec Ideal S1x64 .f32) (ix2 0 h)
    = (m ((c : Thread nD τ).loc main_arg8) : FVec Ideal S64 .f32) (ix1 h) := by
  blk_ext! [iblk, V, idx t]

theorem block_9 (t : Fin cfg0.N) : iblk m c 9 t = m ((c : Thread nD τ).loc main_arg9) := by
  blk_ext! [iblk, V, idx t]

theorem block_10 (t : Fin cfg0.N) (h : Fin 64) : (iblk m c 10 t : FVec Ideal S1x64 .f32) (ix2 0 h)
    = (m ((c : Thread nD τ).loc main_arg10) : FVec Ideal S64 .f32) (ix1 h) := by
  blk_ext! [iblk, V, idx t]

theorem block_11 (t : Fin cfg0.N) : iblk m c 11 t = m ((c : Thread nD τ).loc main_arg11) := by
  blk_ext! [iblk, V, idx t]

theorem block_12 (t : Fin cfg0.N) (h : Fin 4) : (iblk m c 12 t : FVec Ideal S1x4 .f32) (ix2 0 h)
    = (m ((c : Thread nD τ).loc main_arg12) : FVec Ideal S4 .f32) (ix1 h) := by
  blk_ext! [iblk, V, idx t]

theorem block_0 (t : Fin cfg0.N) (n : Fin 128) (k : Fin 4) : (iblk m c 0 t : FVec Ideal S1x128x4 .f32) (ix3 0 n k)
    = scene m c (grid0.coords t 0) n k := by
  unfold scene
  blk_ext! [iblk, V, idx t]

/-- The weights of the blocks of any grid point are the weights of the arguments. -/
theorem params_eq (t : Fin cfg0.N) :
    Pay.params (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) = params m c := by
  simp only [Pay.params, params, Params.mk.injEq]
  refine ⟨?_, ?_, ?_, ?_, ?_, ?_, ?_, ?_, ?_, ?_, ?_, ?_⟩
  · funext k h; rw [block_1]
  · funext h; exact block_2 m c t h
  · funext k h; rw [block_3]
  · funext h; exact block_4 m c t h
  · funext k h; rw [block_5]
  · funext h; exact block_6 m c t h
  · funext k h; rw [block_7]
  · funext h; exact block_8 m c t h
  · funext k h; rw [block_9]
  · funext h; exact block_10 m c t h
  · funext k h; rw [block_11]
  · funext h; exact block_12 m c t h

/-- The state in the input block is the state of one scene. -/
theorem scene_eq (t : Fin cfg0.N) : Pay.scene (iblk m c 0 t) = scene m c (grid0.coords t 0) :=
  funext fun n => funext fun k => block_0 m c t n k

theorem index_eq (y : S1x128x4.Idx) : y = ix3 (0 : Fin 1) (y 1 : Fin 128) (y 2 : Fin 4) := by
  funext a
  match a with
  | ⟨0, _⟩ => exact Subsingleton.elim (α := Fin 1) _ _
  | ⟨1, _⟩ => rfl
  | ⟨2, _⟩ => rfl

/-- Where an element of the block of a grid point lies in the array. -/
theorem place (t : Fin cfg0.N) (n : Fin 128) (j : Fin 4) :
    ((cfg0.win 13).blk t).view.emb (ix3 (0 : Fin 1) n j : S1x128x4.Idx) = (ix3 (grid0.coords t 0 : Fin 64) n j : S64x128x4.Idx) := by
  blk_ext [idx t]

theorem final : (dats m 0 c).arrAt 13 cfg0.N = result m c := by
  refine (dats m 0 c).arrAt_eq_of_covers 13 _ (by decide +kernel) fun t _ y => ?_
  blk_simp
  rw [after0_13]
  frame_out
  obtain ⟨n, j, rfl⟩ : ∃ (n : Fin 128) (j : Fin 4), y = (ix3 (0 : Fin 1) n j : S1x128x4.Idx) := ⟨y 1, y 2, index_eq y⟩
  refine (Pay.body_at _ _ _ _ _ _ _ _ _ _ _ _ _ n j).trans ?_
  rw [params_eq, scene_eq]
  exact (congrArg (result m c) (place t n j)).symm

end Cert.KernelIdeal.Final

end
-- ==== Proof.Edges.lean ====
/- The edge list of the complete directed graph on 128 nodes: edge `e` goes from node `e / 127` to the `e % 127`-th of the
   other nodes. A sum over the edges that enter one node is a sum over the other nodes. -/
module

public import Idealize.ShloMosaic.PureOps.Ideal
public import Idealize.ShloMosaic.Lib.Pointwise

@[expose] public section

noncomputable section

namespace Cert.Edges

open Idealize.ShloMosaic

/-- The node edge `e` leaves. -/
def send (e : Fin 16256) : Fin 128 := ⟨e.val / 127, by omega⟩
/-- Which of the other nodes edge `e` enters. -/
def slot (e : Fin 16256) : Fin 127 := ⟨e.val % 127, by omega⟩
/-- The node edge `e` enters. -/
def recv (e : Fin 16256) : Fin 128 := (send e).succAbove (slot e)

/-- The node entered, by comparison of the two numbers. -/
theorem recv_val (e : Fin 16256) : (recv e).val = if e.val / 127 ≤ e.val % 127 then e.val % 127 + 1 else e.val % 127 := by
  unfold recv Fin.succAbove
  by_cases h : e.val / 127 ≤ e.val % 127
  · rw [if_pos h, if_neg]
    · simp [slot]
    · simp [Fin.lt_def, send, slot]; omega
  · rw [if_neg h, if_pos]
    · simp [slot]
    · simp [Fin.lt_def, send, slot]; omega

/-- Over the other nodes of `s`, the terms at node `n`: the one term at `n`, none when `n` is `s` itself. -/
theorem sum_slot (s n : Fin 128) (c : EReal) : (∑ k : Fin 127, if s.succAbove k = n then c else 0) = if s = n then 0 else c := by
  by_cases h : s = n
  · rw [if_pos h]
    refine Finset.sum_eq_zero fun k _ => if_neg ?_
    rw [← h]; exact Fin.succAbove_ne s k
  · rw [if_neg h]
    obtain ⟨k, hk⟩ := Fin.exists_succAbove_eq (Ne.symm h)
    rw [Finset.sum_eq_single k]
    · rw [if_pos hk]
    · intro b _ hb
      refine if_neg fun hb' => hb (Fin.succAbove_right_injective (hb'.trans hk.symm))
    · intro h'; exact absurd (Finset.mem_univ k) h'

/-- A sum over the edges that enter `n` is a sum over the nodes other than `n`. -/
theorem sum_edges (F : Fin 128 → Fin 128 → EReal) (n : Fin 128) :
    (∑ e : Fin 16256, if recv e = n then F (send e) (recv e) else 0) = ∑ s : Fin 128, if s = n then 0 else F s n := by
  rw [Fin.sum_univ_tiles 128 127 rfl]
  refine Finset.sum_congr rfl fun s _ => ?_
  rw [← sum_slot s n (F s n)]
  refine Finset.sum_congr rfl fun k _ => ?_
  have hs : send ⟨s.val * 127 + k.val, by omega⟩ = s := by
    apply Fin.ext; simp only [send]; omega
  have hk : slot ⟨s.val * 127 + k.val, by omega⟩ = k := by
    apply Fin.ext; simp only [slot]; omega
  have hr : recv ⟨s.val * 127 + k.val, by omega⟩ = s.succAbove k := by
    unfold recv; rw [hs, hk]
  rw [hr, hs]
  by_cases h : s.succAbove k = n
  · rw [if_pos h, if_pos h, h]
  · rw [if_neg h, if_neg h]

end Cert.Edges

end
-- ==== Proof.Angles.lean ====
/- Scalar facts about angles on the extended reals: the two-argument arctangent is a real number or `⊥`, so that adding a
   whole number of turns to it changes neither its cosine nor its sine, and the angle of the point `(-1, 0)` is the real `π`. -/
module

public import Idealize.ShloMosaic.PureOps.Ideal
public import Mathlib.Analysis.SpecialFunctions.Trigonometric.Basic

@[expose] public section

noncomputable section

namespace Cert.Angles

open Idealize.ShloMosaic

/-- The pattern of `-1.0` denotes the real `-1`. -/
theorem ofBits_neg_one : Ideal.ofBits .f32 0xBF800000#32 = ((-1 : ℝ) : EReal) := by
  simp [Ideal.ofBits, Ideal.ieee, -EReal.coe_mul, -EReal.coe_neg]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `127.0` denotes the real `127`. -/
theorem ofBits_127 : Ideal.ofBits .f32 0x42FE0000#32 = ((127 : ℝ) : EReal) := by
  simp [Ideal.ofBits, Ideal.ieee, -EReal.coe_mul]; norm_num

/-- The angle of the point `(-1, 0)` is `π`. -/
theorem atan2_zero_neg_one : Ideal.atan2 0 (Ideal.ofBits .f32 0xBF800000#32) = ((Real.pi : ℝ) : EReal) := by
  rw [ofBits_neg_one, show (0 : EReal) = ((0 : ℝ) : EReal) from rfl]
  show ((_ : ℝ) : EReal) = _
  norm_num

/-- A two-argument arctangent is `⊥` or a real number. -/
theorem atan2_cases (y x : EReal) : Ideal.atan2 y x = ⊥ ∨ ∃ r : ℝ, Ideal.atan2 y x = (r : EReal) := by
  induction y using EReal.rec with
  | bot => exact .inl rfl
  | top => exact .inl rfl
  | coe y =>
    induction x using EReal.rec with
    | bot => exact .inl rfl
    | top => exact .inl rfl
    | coe x => exact .inr ⟨_, rfl⟩

/-- `n` turns, as the reference writes them: `n · (2 · atan2(0, -1))`, is the real `n · 2π`. -/
theorem turns (n : ℕ) : ((n : ℝ) : EReal) * (Ideal.ofBits .f32 0x40000000#32 * Ideal.atan2 0 (Ideal.ofBits .f32 0xBF800000#32))
    = (((n : ℝ) * (2 * Real.pi) : ℝ) : EReal) := by
  rw [atan2_zero_neg_one, ofBits_two]; push_cast; rfl

/-- Whole turns added to an arctangent leave its cosine as it is. -/
theorem cos_turn (y x : EReal) (n : ℕ) :
    Ideal.cos (Ideal.atan2 y x + ((n : ℝ) : EReal)
      * (Ideal.ofBits .f32 0x40000000#32 * Ideal.atan2 0 (Ideal.ofBits .f32 0xBF800000#32))) = Ideal.cos (Ideal.atan2 y x) := by
  rw [turns]
  rcases atan2_cases y x with h | ⟨r, h⟩
  · rw [h, EReal.bot_add]
  · rw [h, ← EReal.coe_add, Ideal.cos_coe, Ideal.cos_coe, Real.cos_add_nat_mul_two_pi]

/-- Whole turns added to an arctangent leave its sine as it is. -/
theorem sin_turn (y x : EReal) (n : ℕ) :
    Ideal.sin (Ideal.atan2 y x + ((n : ℝ) : EReal)
      * (Ideal.ofBits .f32 0x40000000#32 * Ideal.atan2 0 (Ideal.ofBits .f32 0xBF800000#32))) = Ideal.sin (Ideal.atan2 y x) := by
  rw [turns]
  rcases atan2_cases y x with h | ⟨r, h⟩
  · rw [h, EReal.bot_add]
  · rw [h, ← EReal.coe_add, Ideal.sin_coe, Ideal.sin_coe, Real.sin_add_nat_mul_two_pi]

/-- Dividing by the angle of `(-1, 0)` is multiplying by the real `π⁻¹`. -/
theorem div_pi (x : EReal) : Ideal.div x (Ideal.atan2 0 (Ideal.ofBits .f32 0xBF800000#32)) = x * ((Real.pi⁻¹ : ℝ) : EReal) := by
  rw [atan2_zero_neg_one, Ideal.div_coe Real.pi_ne_zero, one_div]

/-- Dividing by `127.0` is multiplying by the real `1/127`. -/
theorem div_127 (x : EReal) : Ideal.div x (Ideal.ofBits .f32 0x42FE0000#32) = x * ((1 / 127 : ℝ) : EReal) := by
  rw [ofBits_127, Ideal.div_coe (by norm_num)]

end Cert.Angles

end
-- ==== Proof.Lookup.lean ====
/- The reference's row lookups and its scattered sum, element by element, at the edge list's node numbers. -/
module

public import proofs.«01_k».proof.Proof.Gen.ReferenceIdeal
public import Idealize.ShloMosaic.Lib.Pointwise

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen

/-- A node number as a signed word. -/
theorem toInt_node (n : ℕ) (h : n < 2147483648) : (BitVec.ofNat 32 n).toInt = n := by
  rw [BitVec.toInt_eq_toNat_of_lt] <;> simp only [BitVec.toNat_ofNat] <;> omega

/-- A row lookup at an edge whose word is a node number reads that node's row. -/
theorem gather_at (x : FVec Ideal S64x128x4 .f32) (idx : IVec S16256x1 32) (b : Fin 64) (e : Fin 16256) (k : Fin 4) (n : Fin 128)
    (hn : idx (ix2 e 0) = BitVec.ofNat 32 n.val) :
    Host.gather gather_S64x128x4_S16256x1_S64x16256x4_02_1_n_n_1_1_6414 x idx (ix3 b e k) = x (ix3 b n k) := by
  unfold Host.gather
  refine congrArg x ?_
  funext a
  refine Fin.ext ?_
  show GatherDims.start _ (ix3 b e k) idx a + GatherDims.batchCoord _ (ix3 b e k) a + GatherDims.offCoord _ (ix3 b e k) a = _
  rw [GatherDims.batchCoord_eq_zero _ _ _ (List.not_mem_nil), Nat.add_zero]
  match a with
  | ⟨0, _⟩ =>
    show 0 + b.val = b.val
    rw [Nat.zero_add]
  | ⟨1, _⟩ =>
    show min (idx (GatherDims.siIdx _ (ix3 b e k) _)).toInt.toNat (128 - 1) + 0 = n.val
    have hsi : ∀ c, gather_S64x128x4_S16256x1_S64x16256x4_02_1_n_n_1_1_6414.siIdx (ix3 b e k) c = ix2 e 0 := by
      intro c
      funext z
      match z with
      | ⟨0, _⟩ => rfl
      | ⟨1, _⟩ => exact Subsingleton.elim (α := Fin 1) _ _
    rw [hsi, hn, toInt_node _ (by omega)]
    omega
  | ⟨2, _⟩ =>
    show 0 + k.val = k.val
    rw [Nat.zero_add]

/-- Where an update lands: at the row its edge's word names. -/
theorem scatter_idx (idx : IVec S16256x1 32) (r : Fin 16256 → Fin 128) (hr : ∀ e, idx (ix2 e 0) = BitVec.ofNat 32 (r e).val)
    (e : Fin 16256) (b h : Fin 64) :
    scatter_S128x64x64_S16256x1_S16256x64x64_12_0_0_1.resultIdx? (ix3 e b h) idx = some (ix3 (r e) b h) := by
  have hsi : ∀ c, scatter_S128x64x64_S16256x1_S16256x64x64_12_0_0_1.siIdx (ix3 e b h) c = ix2 e 0 := by
    intro c
    funext z
    match z with
    | ⟨0, _⟩ => rfl
    | ⟨1, _⟩ => exact Subsingleton.elim (α := Fin 1) _ _
  have hs : ∀ a, scatter_S128x64x64_S16256x1_S16256x64x64_12_0_0_1.start (ix3 e b h) idx a
      + scatter_S128x64x64_S16256x1_S16256x64x64_12_0_0_1.window (ix3 e b h) a = ((ix3 (r e) b h : S128x64x64.Idx) a).val := by
    intro a
    match a with
    | ⟨0, _⟩ =>
      show (idx (scatter_S128x64x64_S16256x1_S16256x64x64_12_0_0_1.siIdx (ix3 e b h) _)).toInt + (0 : ℕ) = ((r e).val : ℤ)
      rw [hsi, hr, toInt_node _ (by omega)]
      omega
    | ⟨1, _⟩ =>
      show (0 : ℤ) + (b.val : ℕ) = (b.val : ℤ)
      omega
    | ⟨2, _⟩ =>
      show (0 : ℤ) + (h.val : ℕ) = (h.val : ℤ)
      omega
  unfold ScatterDims.resultIdx?
  rw [dif_pos]
  · refine congrArg some ?_
    funext a
    refine Fin.ext ?_
    show (_ : ℤ).toNat = _
    rw [hs a]; rfl
  · intro a
    rw [hs a]
    exact ⟨by omega, by exact_mod_cast ((ix3 (r e) b h : S128x64x64.Idx) a).isLt⟩

/-- The scattered sum at row `n`: the updates of the edges that enter `n`, added up. -/
theorem scatter_at (x : FVec Ideal S128x64x64 .f32) (idx : IVec S16256x1 32) (u : FVec Ideal S16256x64x64 .f32)
    (r : Fin 16256 → Fin 128) (hr : ∀ e, idx (ix2 e 0) = BitVec.ofNat 32 (r e).val) (n : Fin 128) (b h : Fin 64) :
    Host.scatterAdd scatter_S128x64x64_S16256x1_S16256x64x64_12_0_0_1 x idx u (ix3 n b h)
    = x (ix3 n b h) + ∑ e : Fin 16256, if r e = n then u (ix3 e b h) else 0 := by
  show x (ix3 n b h) + ∑ j ∈ Finset.univ.filter (fun j =>
    scatter_S128x64x64_S16256x1_S16256x64x64_12_0_0_1.resultIdx? j idx = some (ix3 n b h)), u j = _
  refine congrArg (x (ix3 n b h) + ·) ?_
  rw [Finset.sum_filter, sum_idx3]
  refine Finset.sum_congr rfl fun e _ => ?_
  simp only [scatter_idx idx r hr, Option.some.injEq, ix3_inj]
  by_cases hn : r e = n
  · rw [if_pos hn, Finset.sum_eq_single b, Finset.sum_eq_single h]
    · rw [if_pos ⟨hn, rfl, rfl⟩]
    · intro h' _ hh; exact if_neg fun q => hh q.2.2
    · intro q; exact absurd (Finset.mem_univ h) q
    · intro b' _ hb; exact Finset.sum_eq_zero fun h' _ => if_neg fun q => hb q.2.1
    · intro q; exact absurd (Finset.mem_univ b) q
  · rw [if_neg hn]
    exact Finset.sum_eq_zero fun b' _ => Finset.sum_eq_zero fun h' _ => if_neg fun q => hn q.1

end Cert.ReferenceIdeal.Ref

end
-- ==== Proof.RefGeom.lean ====
/- What the reference computes, element by element, up to the rotated coordinates: its values of one scene's nodes and of its
   edges are the functions of Proof/Spec.lean at the edge's two nodes. -/
module

public import proofs.«01_k».proof.Proof.Gen.ReferenceIdeal.Run
public import proofs.«01_k».proof.Proof.Spec
public import proofs.«01_k».proof.Proof.Edges
public import proofs.«01_k».proof.Proof.Angles
public import proofs.«01_k».proof.Proof.Lookup
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Value Cert.Spec Cert.Edges Cert.Angles

variable (V0 : Valuation τ sig (Elt Ideal))

/-- Scene `b` of the inputs. -/
def scene (b : Fin 64) : Fin 128 → Fin 4 → EReal := fun n k => (V0 main_arg0 : FVec Ideal S64x128x4 .f32) (ix3 b n k)

/-- The rotation by the angle of cosine `c` and sine `s`. -/
def mat (c s : EReal) : Fin 2 → Fin 2 → EReal := ![![c, -s], ![s, c]]

/-- A vector turned the other way, first coordinate. -/
theorem turnX_sum (X : Fin 128 → Fin 4 → EReal) (n : Fin 128) (f : Fin 2 → EReal) :
    ∑ x : Fin 2, mat (co X n) (si X n) x 0 * f x = turnX X n (f 0) (f 1) := by
  rw [Fin.sum_univ_two]; rfl

/-- A vector turned the other way, second coordinate. -/
theorem turnY_sum (X : Fin 128 → Fin 4 → EReal) (n : Fin 128) (f : Fin 2 → EReal) :
    ∑ x : Fin 2, mat (co X n) (si X n) x 1 * f x = turnY X n (f 0) (f 1) := by
  rw [Fin.sum_univ_two]
  show -si X n * f 0 + co X n * f 1 = co X n * f 1 - si X n * f 0
  rw [neg_mul, add_comm, sub_eq_add_neg]

/-- A vector turned the other way. -/
theorem turn_sum (X : Fin 128 → Fin 4 → EReal) (n : Fin 128) (f : Fin 2 → EReal) (i : Fin 2) :
    ∑ x : Fin 2, mat (co X n) (si X n) x i * f x = ![turnX X n (f 0) (f 1), turnY X n (f 0) (f 1)] i := by
  match i with
  | 0 => exact turnX_sum X n f
  | 1 => exact turnY_sum X n f

/-- The rotation matrix, entry by entry. -/
theorem mat_ladder (c s : EReal) (i j : Fin 2) :
    (if h : (i : ℕ) < 1 then if h : (j : ℕ) < 1 then c else -s else if h : (j : ℕ) < 1 then s else c) = mat c s i j := by
  fin_cases i <;> fin_cases j <;> rfl

theorem fin1 (z : Fin 1) : z = 0 := Subsingleton.elim _ _

/-! ## Nodes -/

theorem v11_at (b : Fin 64) (n : Fin 128) :
    res_main_v11 (F := Ideal) V0 (ix3 b n 0) = Ideal.atan2 (scene V0 b n 3) (scene V0 b n 2) := by
  pointwise [res_main_v11, res_main_v8, scene]

theorem v20_at (b : Fin 64) (n : Fin 128) (z : Fin 1) : res_main_v20 (F := Ideal) V0 (ix3 b n z) = co (scene V0 b) n := by
  rw [fin1 z]
  pointwise [res_main_v20, res_main_v19, v11_at]
  exact cos_turn _ _ _

theorem v21_at (b : Fin 64) (n : Fin 128) (z : Fin 1) : res_main_v21 (F := Ideal) V0 (ix3 b n z) = si (scene V0 b) n := by
  rw [fin1 z]
  pointwise [res_main_v21, res_main_v19, v11_at]
  exact sin_turn _ _ _

theorem v27_at (b : Fin 64) (n : Fin 128) (i j : Fin 2) :
    res_main_v27 (F := Ideal) V0 (ix4 b n i j) = mat (co (scene V0 b) n) (si (scene V0 b) n) i j := by
  pointwise [res_main_v27]
  simp only [v20_at, v21_at]
  exact mat_ladder _ _ i j

theorem v8_at (b : Fin 64) (n : Fin 128) (i : Fin 2) :
    res_main_v8 (F := Ideal) V0 (ix3 b n i) = scene V0 b n ⟨2 + i, by omega⟩ := by
  pointwise [res_main_v8, scene]

theorem v31_at (b : Fin 64) (n : Fin 128) (j : Fin 4) :
    res_main_v31 (F := Ideal) V0 (ix3 b n j) = own (scene V0 b) n j := by
  pointwise [res_main_v31]
  have ht : ∀ i : Fin 2, ∑ x : Fin 2, mat (co (scene V0 b) n) (si (scene V0 b) n) x i * scene V0 b n ⟨2 + x, by omega⟩
      = ![turnX (scene V0 b) n (scene V0 b n 2) (scene V0 b n 3), turnY (scene V0 b) n (scene V0 b n 2) (scene V0 b n 3)] i :=
    fun i => turn_sum (scene V0 b) n (fun x => scene V0 b n ⟨2 + x, by omega⟩) i
  simp only [v27_at, v8_at]
  fin_cases j
  · rfl
  · rfl
  · exact ht 0
  · exact ht 1

/-! ## The edge list -/

theorem v6_at (e : Fin 16256) : res_main_v6 (F := Ideal) V0 (ix1 e) = BitVec.ofNat 32 (send e).val := by
  pointwise [res_main_v6, res_main_v0]
  rfl

theorem v7_at (e : Fin 16256) : res_main_v7 (F := Ideal) V0 (ix1 e) = BitVec.ofNat 32 (recv e).val := by
  pointwise [res_main_v7, res_main_v0, res_main_v1]
  rw [recv_val]
  have h1 : IntOp.addi (BitVec.ofNat 32 (e.val % 127)) 1#32 = BitVec.ofNat 32 (e.val % 127 + 1) :=
    (BitVec.ofNat_add (e.val % 127) 1).symm
  rw [h1]
  have h2 : IntOp.cmpi .sge (BitVec.ofNat 32 (e.val % 127)) (BitVec.ofNat 32 (e.val / 127))
      = BitVec.ofBool (decide (e.val / 127 ≤ e.val % 127)) := by
    simp only [IntOp.cmpi, BitVec.sle, toInt_node (e.val % 127) (by omega), toInt_node (e.val / 127) (by omega), Nat.cast_le]
  rw [h2]
  by_cases h : e.val / 127 ≤ e.val % 127
  · simp [h, Scalar.select]
  · simp [h, Scalar.select]

/-- A node number is not negative: the reference's wrap of negative numbers leaves it. -/
theorem node_word (n : Fin 128) :
    Scalar.select (IntOp.cmpi .slt (BitVec.ofNat 32 n.val) 0#32) (IntOp.addi (BitVec.ofNat 32 n.val) 128#32) (BitVec.ofNat 32 n.val)
    = BitVec.ofNat 32 n.val := by
  have h2 : IntOp.cmpi .slt (BitVec.ofNat 32 n.val) 0#32 = 0#1 := by
    simp only [IntOp.cmpi, BitVec.slt, toInt_node n.val (by omega)]
    rw [decide_eq_false (by simp)]
    rfl
  rw [h2]; rfl

/-- The words of the nodes the edges leave, as the lookups take them. -/
theorem send_word (e : Fin 16256) :
    (broadcastInDim S16256x1 ![0] bcast_S16256_S16256x1_0 (select (cmpi .slt (res_main_v6 (F := Ideal) V0) (broadcastInDim S16256 ![] bcast_S_S16256 (constantI S_ 32 0#32))) (addi (res_main_v6 (F := Ideal) V0) (broadcastInDim S16256 ![] bcast_S_S16256 (constantI S_ 32 128#32))) (res_main_v6 (F := Ideal) V0)) : IVec S16256x1 32) (ix2 e 0)
    = BitVec.ofNat 32 (send e).val := by
  pointwise []
  rw [v6_at]
  exact node_word _

/-- The words of the nodes the edges enter, as the lookups take them. -/
theorem recv_word (e : Fin 16256) :
    (broadcastInDim S16256x1 ![0] bcast_S16256_S16256x1_0 (select (cmpi .slt (res_main_v7 (F := Ideal) V0) (broadcastInDim S16256 ![] bcast_S_S16256 (constantI S_ 32 0#32))) (addi (res_main_v7 (F := Ideal) V0) (broadcastInDim S16256 ![] bcast_S_S16256 (constantI S_ 32 128#32))) (res_main_v7 (F := Ideal) V0)) : IVec S16256x1 32) (ix2 e 0)
    = BitVec.ofNat 32 (recv e).val := by
  pointwise []
  rw [v7_at]
  exact node_word _

/-! ## Edges -/

theorem v38_at (b : Fin 64) (e : Fin 16256) (k : Fin 4) :
    res_main_v38 (F := Ideal) V0 (ix3 b e k) = scene V0 b (send e) k := by
  unfold res_main_v38
  exact gather_at _ _ b e k (send e) (send_word V0 e)

theorem v45_at (b : Fin 64) (e : Fin 16256) (k : Fin 4) :
    res_main_v45 (F := Ideal) V0 (ix3 b e k) = scene V0 b (recv e) k := by
  unfold res_main_v45
  exact gather_at _ _ b e k (recv e) (recv_word V0 e)

theorem v46_at (b : Fin 64) (e : Fin 16256) (i : Fin 2) :
    res_main_v46 (F := Ideal) V0 (ix3 b e i) = scene V0 b (recv e) ⟨2 + i, by omega⟩ := by
  pointwise [res_main_v46]
  rw [v45_at]

theorem v49_at (b : Fin 64) (e : Fin 16256) :
    res_main_v49 (F := Ideal) V0 (ix3 b e 0) = Ideal.atan2 (scene V0 b (recv e) 3) (scene V0 b (recv e) 2) := by
  pointwise [res_main_v49, res_main_v46, v45_at]

theorem v58_at (b : Fin 64) (e : Fin 16256) (z : Fin 1) : res_main_v58 (F := Ideal) V0 (ix3 b e z) = co (scene V0 b) (recv e) := by
  rw [fin1 z]
  pointwise [res_main_v58, res_main_v57, v49_at]
  exact cos_turn _ _ _

theorem v59_at (b : Fin 64) (e : Fin 16256) (z : Fin 1) : res_main_v59 (F := Ideal) V0 (ix3 b e z) = si (scene V0 b) (recv e) := by
  rw [fin1 z]
  pointwise [res_main_v59, res_main_v57, v49_at]
  exact sin_turn _ _ _

theorem v66_at (b : Fin 64) (e : Fin 16256) (i j : Fin 2) :
    res_main_v66 (F := Ideal) V0 (ix4 b e i j) = mat (co (scene V0 b) (recv e)) (si (scene V0 b) (recv e)) j i := by
  pointwise [res_main_v66]
  simp only [v58_at, v59_at]
  exact mat_ladder _ _ j i

theorem v69_at (b : Fin 64) (e : Fin 16256) (i : Fin 2) :
    res_main_v69 (F := Ideal) V0 (ix3 b e i) = ![dx (scene V0 b) (send e) (recv e), dy (scene V0 b) (send e) (recv e)] i := by
  pointwise [res_main_v69]
  simp only [v38_at, v45_at]
  fin_cases i <;> rfl

theorem v70_at (b : Fin 64) (e : Fin 16256) (i : Fin 2) :
    res_main_v70 (F := Ideal) V0 (ix3 b e i) = ![rx (scene V0 b) (send e) (recv e), ry (scene V0 b) (send e) (recv e)] i := by
  pointwise [res_main_v70]
  simp only [v66_at, v69_at]
  exact turn_sum (scene V0 b) (recv e) ![dx (scene V0 b) (send e) (recv e), dy (scene V0 b) (send e) (recv e)] i

theorem v74_at (b : Fin 64) (e : Fin 16256) :
    res_main_v74 (F := Ideal) V0 (ix3 b e 0) = Ideal.atan2 (scene V0 b (send e) 3) (scene V0 b (send e) 2) := by
  pointwise [res_main_v74, res_main_v71, v38_at]

theorem v83_at (b : Fin 64) (e : Fin 16256) (z : Fin 1) : res_main_v83 (F := Ideal) V0 (ix3 b e z) = co (scene V0 b) (send e) := by
  rw [fin1 z]
  pointwise [res_main_v83, res_main_v82, v74_at]
  exact cos_turn _ _ _

theorem v84_at (b : Fin 64) (e : Fin 16256) (z : Fin 1) : res_main_v84 (F := Ideal) V0 (ix3 b e z) = si (scene V0 b) (send e) := by
  rw [fin1 z]
  pointwise [res_main_v84, res_main_v82, v74_at]
  exact sin_turn _ _ _

/-- Cosine of the angle between the two directions. -/
theorem v91_cos (b : Fin 64) (e : Fin 16256) :
    res_main_v91 (F := Ideal) V0 (ix4 b e 0 0)
    = co (scene V0 b) (send e) * co (scene V0 b) (recv e) + si (scene V0 b) (send e) * si (scene V0 b) (recv e) := by
  pointwise [res_main_v91]
  simp only [v66_at, v83_at, v84_at, Fin.sum_univ_one]
  show co (scene V0 b) (recv e) * co (scene V0 b) (send e) + si (scene V0 b) (recv e) * si (scene V0 b) (send e) = _
  ac_nf

/-- Sine of the angle between the two directions. -/
theorem v91_sin (b : Fin 64) (e : Fin 16256) :
    res_main_v91 (F := Ideal) V0 (ix4 b e 1 0)
    = si (scene V0 b) (send e) * co (scene V0 b) (recv e) - co (scene V0 b) (send e) * si (scene V0 b) (recv e) := by
  pointwise [res_main_v91]
  simp only [v66_at, v83_at, v84_at, Fin.sum_univ_one]
  show -si (scene V0 b) (recv e) * co (scene V0 b) (send e) + co (scene V0 b) (recv e) * si (scene V0 b) (send e) = _
  rw [neg_mul, add_comm, sub_eq_add_neg, mul_comm (si (scene V0 b) (recv e)), mul_comm (co (scene V0 b) (recv e))]

end Cert.ReferenceIdeal.Ref

end
-- ==== Proof.RefOut.lean ====
/- What the reference computes, element by element, from the edge features to the result: the functions of Proof/Spec.lean. -/
module

public import proofs.«01_k».proof.Proof.RefGeom

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Value Cert.Spec Cert.Edges Cert.Angles

variable (V0 : Valuation τ sig (Elt Ideal))

/-- The weights the arguments hold. -/
def params : Params where
  w1 k h := (V0 main_arg1 : FVec Ideal S11x64 .f32) (ix2 k h)
  b1 h := (V0 main_arg2 : FVec Ideal S64 .f32) (ix1 h)
  w2 k h := (V0 main_arg3 : FVec Ideal S64x64 .f32) (ix2 k h)
  b2 h := (V0 main_arg4 : FVec Ideal S64 .f32) (ix1 h)
  rw k h := (V0 main_arg5 : FVec Ideal S4x64 .f32) (ix2 k h)
  rb h := (V0 main_arg6 : FVec Ideal S64 .f32) (ix1 h)
  o1 k h := (V0 main_arg7 : FVec Ideal S64x64 .f32) (ix2 k h)
  c1 h := (V0 main_arg8 : FVec Ideal S64 .f32) (ix1 h)
  o2 k h := (V0 main_arg9 : FVec Ideal S64x64 .f32) (ix2 k h)
  c2 h := (V0 main_arg10 : FVec Ideal S64 .f32) (ix1 h)
  o3 k h := (V0 main_arg11 : FVec Ideal S64x4 .f32) (ix2 k h)
  c3 h := (V0 main_arg12 : FVec Ideal S4 .f32) (ix1 h)

/-- The features of the nodes the edges enter. -/
theorem own_gather (b : Fin 64) (e : Fin 16256) (k : Fin 4) :
    Host.gather gather_S64x128x4_S16256x1_S64x16256x4_02_1_n_n_1_1_6414 (res_main_v31 (F := Ideal) V0) (broadcastInDim S16256x1 ![0] bcast_S16256_S16256x1_0 (select (cmpi .slt (res_main_v7 (F := Ideal) V0) (broadcastInDim S16256 ![] bcast_S_S16256 (constantI S_ 32 0#32))) (addi (res_main_v7 (F := Ideal) V0) (broadcastInDim S16256 ![] bcast_S_S16256 (constantI S_ 32 128#32))) (res_main_v7 (F := Ideal) V0))) (ix3 b e k)
    = own (scene V0 b) (recv e) k :=
  (gather_at _ _ b e k (recv e) (recv_word V0 e)).trans (v31_at V0 b (recv e) k)

/-- The velocity of the node an edge leaves, in the frame of the node it enters. -/
theorem vel_at (b : Fin 64) (e : Fin 16256) (i : Fin 2) :
    ∑ x : Fin 2, mat (co (scene V0 b) (recv e)) (si (scene V0 b) (recv e)) x i * scene V0 b (send e) ⟨2 + x, by omega⟩
    = ![turnX (scene V0 b) (recv e) (scene V0 b (send e) 2) (scene V0 b (send e) 3),
        turnY (scene V0 b) (recv e) (scene V0 b (send e) 2) (scene V0 b (send e) 3)] i :=
  turn_sum (scene V0 b) (recv e) (fun x => scene V0 b (send e) ⟨2 + x, by omega⟩) i

set_option maxHeartbeats 1600000 in
/-- First layer of the message network, before its activation. -/
theorem v117_at (b : Fin 64) (e : Fin 16256) (h : Fin 64) :
    res_main_v117 (F := Ideal) V0 (ix3 b e h) = pre (params V0) (scene V0 b) (send e) (recv e) h := by
  pointwise [res_main_v117]
  simp only [v70_at, v91_cos, v91_sin, v69_at, v66_at, v38_at, div_pi]
  refine congrArg (· + (V0 main_arg2 : FVec Ideal S64 .f32) (ix1 h)) (Finset.sum_congr rfl fun k _ =>
    congrArg (· * (V0 main_arg1 : FVec Ideal S11x64 .f32) (ix2 k h)) ?_)
  fin_cases k
  · rfl
  · rfl
  · rfl
  · exact congrArg Ideal.sqrt (Fin.sum_univ_two _)
  · rfl
  · exact vel_at V0 b e 0
  · exact vel_at V0 b e 1
  · exact own_gather V0 b e 0
  · exact own_gather V0 b e 1
  · exact own_gather V0 b e 2
  · exact own_gather V0 b e 3

set_option maxHeartbeats 1600000 in
/-- The message of an edge. -/
theorem msg_at (b : Fin 64) (e : Fin 16256) (h : Fin 64) :
    (transpose S16256x64x64 [1, 0, 2] (addf (Host.dotGeneral (φ₁ := .f32) (φ₂ := .f32) dot_S64x16256x64_S64x64_S64x16256x64_2_0_01_1_n_n none (mulf (res_main_v117 (F := Ideal) V0) (Host.divf (broadcastInDim S64x16256x64 ![] bcast_S_S64x16256x64 (constant S_ .f32 0x3F800000#32)) (addf (broadcastInDim S64x16256x64 ![] bcast_S_S64x16256x64 (constant S_ .f32 0x3F800000#32)) (Host.exp (Host.negf (res_main_v117 (F := Ideal) V0)))))) (V0 main_arg3 : FVec Ideal S64x64 .f32)) (broadcastInDim S64x16256x64 ![0, 1, 2] bcast_S1x1x64_S64x16256x64_0_1_2 (broadcastInDim S1x1x64 ![2] bcast_S64_S1x1x64_2 (V0 main_arg4 : FVec Ideal S64 .f32)))) transposes_S64x16256x64_S16256x64x64_1_0_2 : FVec Ideal S16256x64x64 .f32)
      (ix3 e b h)
    = msg (params V0) (scene V0 b) (send e) (recv e) h := by
  pointwise []
  simp only [v117_at]
  rfl

/-- The sum of the messages that enter a node. -/
theorem sum_at (b : Fin 64) (n : Fin 128) (h : Fin 64) :
    (Host.scatterAdd scatter_S128x64x64_S16256x1_S16256x64x64_12_0_0_1 (broadcastInDim S128x64x64 ![] bcast_S_S128x64x64 (constant S_ .f32 0x00000000#32)) (broadcastInDim S16256x1 ![0] bcast_S16256_S16256x1_0 (res_main_v7 (F := Ideal) V0)) (transpose S16256x64x64 [1, 0, 2] (addf (Host.dotGeneral (φ₁ := .f32) (φ₂ := .f32) dot_S64x16256x64_S64x64_S64x16256x64_2_0_01_1_n_n none (mulf (res_main_v117 (F := Ideal) V0) (Host.divf (broadcastInDim S64x16256x64 ![] bcast_S_S64x16256x64 (constant S_ .f32 0x3F800000#32)) (addf (broadcastInDim S64x16256x64 ![] bcast_S_S64x16256x64 (constant S_ .f32 0x3F800000#32)) (Host.exp (Host.negf (res_main_v117 (F := Ideal) V0)))))) (V0 main_arg3 : FVec Ideal S64x64 .f32)) (broadcastInDim S64x16256x64 ![0, 1, 2] bcast_S1x1x64_S64x16256x64_0_1_2 (broadcastInDim S1x1x64 ![2] bcast_S64_S1x1x64_2 (V0 main_arg4 : FVec Ideal S64 .f32)))) transposes_S64x16256x64_S16256x64x64_1_0_2) : FVec Ideal S128x64x64 .f32)
      (ix3 n b h)
    = ∑ s : Fin 128, if s = n then 0 else msg (params V0) (scene V0 b) s n h := by
  refine (scatter_at _ _ _ recv (fun e => ?_) n b h).trans ?_
  · pointwise []
    exact v7_at V0 e
  · rw [← sum_edges (fun s r => msg (params V0) (scene V0 b) s r h) n]
    refine (congrArg₂ (fun x y : EReal => x + y) (?_ : _ = (0 : EReal)) (Finset.sum_congr rfl fun e _ =>
      congrArg (fun v : EReal => if recv e = n then v else 0) (msg_at V0 b e h))).trans (zero_add _)
    pointwise []

set_option maxHeartbeats 1600000 in
/-- The prediction in the frame of the node. -/
theorem v148_at (b : Fin 64) (n : Fin 128) (j : Fin 4) :
    res_main_v148 (F := Ideal) V0 (ix3 b n j) = pred (params V0) (scene V0 b) n j := by
  unfold res_main_v148
  generalize hS : Host.scatterAdd (F := Ideal) (φ := .f32) scatter_S128x64x64_S16256x1_S16256x64x64_12_0_0_1 _ _ _ = S
  have hs : ∀ h : Fin 64, S (ix3 n b h) = ∑ s : Fin 128, if s = n then 0 else msg (params V0) (scene V0 b) s n h := by
    intro h
    rw [← hS]
    exact sum_at V0 b n h
  clear hS
  pointwise []
  simp only [hs, div_127, v31_at]
  rfl

/-- The reference's result. -/
theorem result_at (b : Fin 64) (n : Fin 128) (j : Fin 4) :
    (addf (V0 (Proc.devRef .tc main_arg0) : FVec Ideal S64x128x4 .f32) (concatenate S64x128x4 2 [⟨S64x128x2, (Host.dotGeneral (φ₁ := .f32) (φ₂ := .f32) dot_S64x128x2x2_S64x128x2_S64x128x2_3_2_2_n_01_01 none (res_main_v27 (F := Ideal) V0) (extractStridedSlice (α := Ideal .f32) S64x128x2 ![0, 0, 0] (res_main_v148 (F := Ideal) V0) slices_S64x128x4_S64x128x2_0_0_0))⟩, ⟨S64x128x2, (Host.dotGeneral (φ₁ := .f32) (φ₂ := .f32) dot_S64x128x2x2_S64x128x2_S64x128x2_3_2_2_n_01_01 none (res_main_v27 (F := Ideal) V0) (extractStridedSlice (α := Ideal .f32) S64x128x2 ![0, 0, 2] (res_main_v148 (F := Ideal) V0) slices_S64x128x4_S64x128x2_0_0_2))⟩] concatenates_S64x128x2_S64x128x2_S64x128x4_d2) : FVec Ideal S64x128x4 .f32)
      (ix3 b n j)
    = out (params V0) (scene V0 b) n j := by
  pointwise []
  simp only [v27_at, v148_at, Fin.sum_univ_two]
  refine congrArg (scene V0 b n j + ·) ?_
  fin_cases j <;> simp [mat, back, sub_eq_add_neg]

end Cert.ReferenceIdeal.Ref

end
-- ==== Proof.lean ====
/- The claims: the three programs run and keep their arguments, the two named constants round to the kernel's literals,
   and the kernel's result is the reference's, element by element. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

public import proofs.«01_k».proof.Proof.Gen.KernelIdeal.Value
public import proofs.«01_k».proof.Proof.Gen.ReferenceIdeal.Run
public import proofs.«01_k».proof.Proof.Final
public import proofs.«01_k».proof.Proof.RefOut
public import Idealize.ShloMosaic.Lib.Quiescent

@[expose] public section

noncomputable section

namespace Cert.Proof

open Idealize.ShloMosaic Idealize.ShloMosaic.StableHlo Idealize.SL.Sem

/-- The kernel runs, and its arguments end as they began. -/
theorem frame_kernel [Cert.Kernel.Facts] : quiescent_Kernel := fun m g _ => Cert.Kernel.Gen.frame m g

/-- So does the kernel with its named constants. -/
theorem frame_ideal [Cert.KernelIdeal.Facts] : quiescent_KernelIdeal := fun m g _ => Cert.KernelIdeal.Gen.frame m g

/-- So does the reference. -/
theorem frame_reference [Cert.ReferenceIdeal.Facts] : quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- `1 / π` and `1 / 127` round to the two literals of the kernel. -/
theorem preserved : preserves_Kernel_KernelIdeal :=
  ⟨IdealRules.named_const.statement Cert.KernelIdeal.κ "inv_pi" .f32 0x3EA2F983#32 ((Real.pi⁻¹ : ℝ) : EReal) rfl,
    IdealRules.named_const.statement Cert.KernelIdeal.κ "inv_deg" .f32 0x3C010204#32 ((1 / 127 : ℝ) : EReal) rfl⟩

/-- The two results are one array. -/
theorem equal [Cert.KernelIdeal.Facts] [Cert.ReferenceIdeal.Facts] : algebraic_KernelIdeal_ReferenceIdeal := by
  intro m g m' g' _ hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11, h12, _⟩ := hagree c
  have hp : Cert.ReferenceIdeal.Ref.params (launchContents m' c) = Cert.KernelIdeal.Final.params m c := by
    simp only [Cert.ReferenceIdeal.Ref.params, Cert.KernelIdeal.Final.params, Cert.Spec.Params.mk.injEq]
    refine ⟨?_, ?_, ?_, ?_, ?_, ?_, ?_, ?_, ?_, ?_, ?_, ?_⟩
    · funext k h; exact congrFun h1 (ix2 k h)
    · funext h; exact congrFun h2 (ix1 h)
    · funext k h; exact congrFun h3 (ix2 k h)
    · funext h; exact congrFun h4 (ix1 h)
    · funext k h; exact congrFun h5 (ix2 k h)
    · funext h; exact congrFun h6 (ix1 h)
    · funext k h; exact congrFun h7 (ix2 k h)
    · funext h; exact congrFun h8 (ix1 h)
    · funext k h; exact congrFun h9 (ix2 k h)
    · funext h; exact congrFun h10 (ix1 h)
    · funext k h; exact congrFun h11 (ix2 k h)
    · funext h; exact congrFun h12 (ix1 h)
  have hs : ∀ b, Cert.ReferenceIdeal.Ref.scene (launchContents m' c) b = Cert.KernelIdeal.Final.scene m c b := fun b =>
    funext fun n => funext fun k => congrFun h0 (ix3 b n k)
  rw [Cert.KernelIdeal.Final.final]
  funext i
  obtain ⟨b, n, j, rfl⟩ : ∃ (b : Fin 64) (n : Fin 128) (j : Fin 4), i = (ix3 b n j : Cert.ReferenceIdeal.S64x128x4.Idx) :=
    ⟨i 0, i 1, i 2, by funext a; match a with | ⟨0, _⟩ => rfl | ⟨1, _⟩ => rfl | ⟨2, _⟩ => rfl⟩
  refine (Cert.ReferenceIdeal.Ref.result_at (launchContents m' c) b n j).trans ?_
  rw [hp, hs]
  rfl

theorem claim : Cert.Claim := ⟨Cert.Kernel.Gen.facts, Cert.KernelIdeal.Gen.facts, Cert.ReferenceIdeal.Gen.facts,
  frame_kernel, frame_ideal, frame_reference, preserved, equal⟩

end Cert.Proof

end
